-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_nonneg [hPre_finite_and_nonneg : Cert.Pre_finite_and_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonneg [hPre_finite_and_nonneg : Cert.Pre_finite_and_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_nonneg [hKernelIdeal : Cert.KernelIdeal.Facts] [hPre_finite_and_nonneg : Cert.Pre_finite_and_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_nonneg [hReferenceIdeal : Cert.ReferenceIdeal.Facts] [hPre_finite_and_nonneg : Cert.Pre_finite_and_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_nonneg [hKernelIdeal : Cert.KernelIdeal.Facts] [hReferenceIdeal : Cert.ReferenceIdeal.Facts] [hPre_finite_and_nonneg : Cert.Pre_finite_and_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_nonneg : Cert.Pre_finite_and_nonneg.Facts),
    quiescent_Kernel (hKernel := hKernel)
    ∧ quiescent_KernelIdeal (hKernelIdeal := hKernelIdeal)
    ∧ quiescent_KernelIdeal_pre_finite_and_nonneg (hKernelIdeal := hKernelIdeal) (hPre_finite_and_nonneg := hPre_finite_and_nonneg)
    ∧ quiescent_ReferenceIdeal (hReferenceIdeal := hReferenceIdeal)
    ∧ quiescent_ReferenceIdeal_pre_finite_and_nonneg (hReferenceIdeal := hReferenceIdeal) (hPre_finite_and_nonneg := hPre_finite_and_nonneg)
    ∧ preserves_Kernel_KernelIdeal
    ∧ algebraic_KernelIdeal_ReferenceIdeal_pre_finite_and_nonneg (hKernelIdeal := hKernelIdeal) (hReferenceIdeal := hReferenceIdeal) (hPre_finite_and_nonneg := hPre_finite_and_nonneg)
-- ==== Pre_finite_and_nonneg.lean ====
abbrev S25x32768x128 : Shape := ⟨3, ![25, 32768, 128]⟩
abbrev S32768 : Shape := ⟨1, ![32768]⟩
abbrev S128x128 : Shape := ⟨2, ![128, 128]⟩
abbrev S_ : Shape := ⟨0, ![]⟩

class Facts : Prop where
  bcast_S_S25x32768x128 : S_.BroadcastsInDim S25x32768x128 (![] : Fin 0 → Fin S25x32768x128.rank)
  reducesTo_S25x32768x128_S_d0_1_2 : S25x32768x128.ReducesTo [0, 1, 2] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S25x32768x128 .f32) (main_arg1 : IVec S32768 32) (main_arg2 : FVec F S128x128 .f32) : IVec S_ 1 :=
  let main_v0 : FVec F S25x32768x128 .f32 := Host.absf main_arg0
  let main_cst : FVec F S_ .f32 := constant S_ .f32 0x7F800000#32
  let main_v1 : FVec F S25x32768x128 .f32 := broadcastInDim S25x32768x128 ![] bcast_S_S25x32768x128 main_cst
  let main_v2 : IVec S25x32768x128 1 := cmpf .olt main_v0 main_v1
  let main_c : IVec S_ 1 := constantI S_ 1 1#1
  let main_v3 : IVec S_ 1 := (fun x v => Host.reduce IntOp.andi x v reducesTo_S25x32768x128_S_d0_1_2 h_S_) main_v2 main_c
  let main_c_0 : IVec S_ 32 := constantI S_ 32 0#32
  let main_v4 : IVec S32768 32 := broadcastInDim S32768 ![] bcast_S_S32768 main_c_0
  let main_v5 : IVec S32768 1 := cmpi .sge main_arg1 main_v4
  let main_c_1 : IVec S_ 1 := constantI S_ 1 1#1
  let main_v6 : IVec S_ 1 := (fun x v => Host.reduce IntOp.andi x v reducesTo_S32768_S_d0 h_S_) main_v5 main_c_1
  let main_v7 : IVec S_ 1 := andi main_v3 main_v6
  main_v7
-- ==== Kernel.lean ====
abbrev S25x32768x128 : Shape := ⟨3, ![25, 32768, 128]⟩
abbrev S32768 : Shape := ⟨1, ![32768]⟩
abbrev S128x128 : Shape := ⟨2, ![128, 128]⟩
abbrev S25x16x128 : Shape := ⟨3, ![25, 16, 128]⟩
abbrev S1x32768x128 : Shape := ⟨3, ![1, 32768, 128]⟩
abbrev S1x16x128 : Shape := ⟨3, ![1, 16, 128]⟩
abbrev S32768x128 : Shape := ⟨2, ![32768, 128]⟩
abbrev S16x32768 : Shape := ⟨2, ![16, 32768]⟩
abbrev S1x32768 : Shape := ⟨2, ![1, 32768]⟩
abbrev S16 : Shape := ⟨1, ![16]⟩
abbrev S16x128 : Shape := ⟨2, ![16, 128]⟩
abbrev S16x1 : Shape := ⟨2, ![16, 1]⟩

abbrev nBuf : Space → Nat
  | .hbm => 4
  | .vmem => 6
  | .smem => 0
  | _ => 0

abbrev bufTy : (tb : Table) → Fin (tcTables nBuf tb) → BufTy
  | .hbm, ⟨0, _⟩ => ⟨S25x32768x128, .f32⟩
  | .hbm, ⟨1, _⟩ => ⟨S32768, .i32⟩
  | .hbm, ⟨2, _⟩ => ⟨S128x128, .f32⟩
  | .hbm, ⟨3, _⟩ => ⟨S25x16x128, .f32⟩
  | .local _ .vmem, ⟨0, _⟩ => ⟨S32768, .i32⟩
  | .local _ .vmem, ⟨1, _⟩ => ⟨S128x128, .f32⟩
  | .local _ .vmem, ⟨2, _⟩ => ⟨S1x32768x128, .f32⟩
  | .local _ .vmem, ⟨3, _⟩ => ⟨S1x32768x128, .f32⟩
  | .local _ .vmem, ⟨4, _⟩ => ⟨S1x16x128, .f32⟩
  | .local _ .vmem, ⟨5, _⟩ => ⟨S1x16x128, .f32⟩
  | _, _ => ⟨S25x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32768 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S25x32768x128 : Shape := ⟨3, ![25, 32768, 128]⟩
abbrev S32768 : Shape := ⟨1, ![32768]⟩
abbrev S128x128 : Shape := ⟨2, ![128, 128]⟩
abbrev S_ : Shape := ⟨0, ![]⟩
abbrev S16 : Shape := ⟨1, ![16]⟩
abbrev S32768x1 : Shape := ⟨2, ![32768, 1]⟩
abbrev S25x16x128 : Shape := ⟨3, ![25, 16, 128]⟩
abbrev S1x16x1 : Shape := ⟨3, ![1, 16, 1]⟩
abbrev S1 : Shape := ⟨1, ![1]⟩
abbrev S1x1 : Shape := ⟨2, ![1, 1]⟩
abbrev S25x32768 : Shape := ⟨2, ![25, 32768]⟩
abbrev S25x32768x1 : Shape := ⟨3, ![25, 32768, 1]⟩

abbrev nBuf : Space → Nat
  | .hbm => 104
  | .vmem => 0
  | .smem => 0
  | _ => 0

abbrev bufTy : (tb : Table) → Fin (tcTables nBuf tb) → BufTy
  | .hbm, ⟨0, _⟩ => ⟨S25x32768x128, .f32⟩
  | .hbm, ⟨1, _⟩ => ⟨S32768, .i32⟩
  | .hbm, ⟨2, _⟩ => ⟨S128x128, .f32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S16, .f32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S16, .f32⟩
  | .hbm, ⟨16, _⟩ => ⟨S_, .f32⟩
  | .hbm, ⟨17, _⟩ => ⟨S25x16x128, .f32⟩
  | .hbm, ⟨18, _⟩ => ⟨S_, .i32⟩
  | .hbm, ⟨19, _⟩ => ⟨S32768, .i32⟩
  | .hbm, ⟨20, _⟩ => ⟨S32768, .i1⟩
  | .hbm, ⟨21, _⟩ => ⟨S_, .i32⟩
  | .hbm, ⟨22, _⟩ => ⟨S32768, .i32⟩
  | .hbm, ⟨23, _⟩ => ⟨S32768, .i32⟩
  | .hbm, ⟨24, _⟩ => ⟨S32768, .i32⟩
  | .hbm, ⟨25, _⟩ => ⟨S32768x1, .i32⟩
  | .hbm, ⟨26, _⟩ => ⟨S25x16x128, .f32⟩
  | .hbm, ⟨27, _⟩ => ⟨S_, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S1x16x1, .f32⟩
  | .hbm, ⟨32, _⟩ => ⟨S25x16x128, .f32⟩
  | .hbm, ⟨33, _⟩ => ⟨S25x16x128, .f32⟩
  | .hbm, ⟨34, _⟩ => ⟨S25x16x128, .f32⟩
  | .hbm, ⟨35, _⟩ => ⟨S25x16x128, .f32⟩
  | .hbm, ⟨36, _⟩ => ⟨S_, .i32⟩
  | .hbm, ⟨37, _⟩ => ⟨S32768, .i32⟩
  | .hbm, ⟨38, _⟩ => ⟨S32768, .i1⟩
  | .hbm, ⟨39, _⟩ => ⟨S_, .i32⟩
  | .hbm, ⟨40, _⟩ => ⟨S32768, .i32⟩
  | .hbm, ⟨41, _⟩ => ⟨S32768, .i32⟩
  | .hbm, ⟨42, _⟩ => ⟨S32768, .i32⟩
  | .hbm, ⟨43, _⟩ => ⟨S32768x1, .i32⟩
  | .hbm, ⟨44, _⟩ => ⟨S1, .i32⟩
  | .hbm, ⟨45, _⟩ => ⟨S_, .i32⟩
  | .hbm, ⟨46, _⟩ => ⟨S32768x1, .i32⟩
  | .hbm, ⟨47, _⟩ => ⟨S32768x1, .i1⟩
  | .hbm, ⟨48, _⟩ => ⟨S1x1, .i32⟩
  | .hbm, ⟨49, _⟩ => ⟨S32768x1, .i32⟩
  | .hbm, ⟨50, _⟩ => ⟨S32768x1, .i1⟩
  | .hbm, ⟨51, _⟩ => ⟨S32768x1, .i1⟩
  | .hbm, ⟨52, _⟩ => ⟨S_, .i1⟩
  | .hbm, ⟨53, _⟩ => ⟨S32768, .i1⟩
  | .hbm, ⟨54, _⟩ => ⟨S25x32768x128, .f32⟩
  | .hbm, ⟨55, _⟩ => ⟨S25x32768x128, .i1⟩
  | .hbm, ⟨56, _⟩ => ⟨S_, .f32⟩
  | .hbm, ⟨57, _⟩ => ⟨S25x32768x128, .f32⟩
  | .hbm, ⟨58, _⟩ => ⟨S25x32768x128, .f32⟩
  | .hbm, ⟨59, _⟩ => ⟨S25x32768x128, .f32⟩
  | .hbm, ⟨60, _⟩ => ⟨S_, .f32⟩
  | .hbm, ⟨61, _⟩ => ⟨S25x32768, .f32⟩
  | .hbm, ⟨62, _⟩ => ⟨S25x32768x1, .f32⟩
  | .hbm, ⟨63, _⟩ => ⟨S25x32768x1, .f32⟩
  | .hbm, ⟨64, _⟩ => ⟨S25x32768x1, .f32⟩
  | .hbm, ⟨65, _⟩ => ⟨S_, .f32⟩
  | .hbm, ⟨66, _⟩ => ⟨S25x32768x1, .f32⟩
  | .hbm, ⟨67, _⟩ => ⟨S25x32768x1, .f32⟩
  | .hbm, ⟨68, _⟩ => ⟨S_, .f32⟩
  | .hbm, ⟨69, _⟩ => ⟨S25x32768x1, .f32⟩
  | .hbm, ⟨70, _⟩ => ⟨S25x32768x1, .f32⟩
  | .hbm, ⟨71, _⟩ => ⟨S25x32768x128, .f32⟩
  | .hbm, ⟨72, _⟩ => ⟨S25x32768x128, .f32⟩
  | .hbm, ⟨73, _⟩ => ⟨S_, .f32⟩
  | .hbm, ⟨74, _⟩ => ⟨S32768, .f32⟩
  | .hbm, ⟨75, _⟩ => ⟨S_, .f32⟩
  | .hbm, ⟨76, _⟩ => ⟨S16, .f32⟩
  | .hbm, ⟨77, _⟩ => ⟨S_, .i32⟩
  | .hbm, ⟨78, _⟩ => ⟨S32768, .i32⟩
  | .hbm, ⟨79, _⟩ => ⟨S32768, .i1⟩
  | .hbm, ⟨80, _⟩ => ⟨S_, .i32⟩
  | .hbm, ⟨81, _⟩ => ⟨S32768, .i32⟩
  | .hbm, ⟨82, _⟩ => ⟨S32768, .i32⟩
  | .hbm, ⟨83, _⟩ => ⟨S32768, .i32⟩
  | .hbm, ⟨84, _⟩ => ⟨S32768x1, .i32⟩
  | .hbm, ⟨85, _⟩ => ⟨S16, .f32⟩
  | .hbm, ⟨86, _⟩ => ⟨S_, .f32⟩
  | .hbm, ⟨87, _⟩ => ⟨S25x16x128, .f32⟩
  | .hbm, ⟨88, _⟩ => ⟨S_, .i32⟩
  | .hbm, ⟨89, _⟩ => ⟨S32768, .i32⟩
  | .hbm, ⟨90, _⟩ => ⟨S32768, .i1⟩
  | .hbm, ⟨91, _⟩ => ⟨S_, .i32⟩
  | .hbm, ⟨92, _⟩ => ⟨S32768, .i32⟩
  | .hbm, ⟨93, _⟩ => ⟨S32768, .i32⟩
  | .hbm, ⟨94, _⟩ => ⟨S32768, .i32⟩
  | .hbm, ⟨95, _⟩ => ⟨S32768x1, .i32⟩
  | .hbm, ⟨96, _⟩ => ⟨S25x16x128, .f32⟩
  | .hbm, ⟨97, _⟩ => ⟨S_, .f32⟩
  | .hbm, ⟨98, _⟩ => ⟨S_, .f32⟩
  | .hbm, ⟨99, _⟩ => ⟨S16, .f32⟩
  | .hbm, ⟨100, _⟩ => ⟨S16, .f32⟩
  | .hbm, ⟨101, _⟩ => ⟨S1x16x1, .f32⟩
  | .hbm, ⟨102, _⟩ => ⟨S25x16x128, .f32⟩
  | .hbm, ⟨103, _⟩ => ⟨S25x16x128, .f32⟩
  | _, _ => ⟨S25x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v23 : Ref sig .tc := ⟨.hbm, 58, rfl⟩
abbrev main_v24 : Ref sig .tc := ⟨.hbm, 59, rfl⟩
abbrev main_cst_6 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_7 : Ref sig .tc := ⟨.hbm, 65, rfl⟩
abbrev main_v29 : Ref sig .tc := ⟨.hbm, 66, rfl⟩
abbrev main_v30 : Ref sig .tc := ⟨.hbm, 67, rfl⟩
abbrev main_cst_8 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_9 : Ref sig .tc := ⟨.hbm, 73, rfl⟩
abbrev main_v35 : Ref sig .tc := ⟨.hbm, 74, rfl⟩
abbrev main_cst_10 : Ref sig .tc := ⟨.hbm, 75, rfl⟩
abbrev main_v36 : Ref sig .tc := ⟨.hbm, 76, rfl⟩
abbrev main_c_11 : Ref sig .tc := ⟨.hbm, 77, rfl⟩
abbrev main_v37 : Ref sig .tc := ⟨.hbm, 78, rfl⟩
abbrev main_v38 : Ref sig .tc := ⟨.hbm, 79, rfl⟩
abbrev main_c_12 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_13 : Ref sig .tc := ⟨.hbm, 86, rfl⟩
abbrev main_v44 : Ref sig .tc := ⟨.hbm, 87, rfl⟩
abbrev main_c_14 : Ref sig .tc := ⟨.hbm, 88, rfl⟩
abbrev main_v45 : Ref sig .tc := ⟨.hbm, 89, rfl⟩
abbrev main_v46 : Ref sig .tc := ⟨.hbm, 90, rfl⟩
abbrev main_c_15 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_16 : Ref sig .tc := ⟨.hbm, 97, rfl⟩
abbrev main_call2_v0 : Ref sig .tc := ⟨.hbm, 98, rfl⟩
abbrev main_call2_v1 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩

abbrev nD : Nat := 1
abbrev τ : Topo := Topo.v7x

variable {F : FTy → Type} [FloatOps F]
-- ==== Proof.Gate.lean ====
module

public import Idealize.ShloMosaic.PureOps.Ideal

/-!
# The gate, in real arithmetic

One plane of the problem, at one segment and one channel, once the rows of the plane are known to be finite and the segment's
squashed centre is a real vector. The kernel gates each row by the logistic function less a constant, sums, and adds the constant
times the plain sum back. The reference gates each row by the logistic function and sums. The two sums are equal.
-/

@[expose] public section

noncomputable section

namespace Cert.Gate

open Idealize.ShloMosaic

/-- A finite sum of real numbers, read as extended reals, is the sum read as an extended real. -/
theorem coe_sum {ι : Type} (t : Finset ι) (f : ι → ℝ) : ((∑ i ∈ t, f i : ℝ) : EReal) = ∑ i ∈ t, (f i : EReal) :=
  map_sum (⟨⟨fun r : ℝ => (r : EReal), EReal.coe_zero⟩, EReal.coe_add⟩ : ℝ →+ EReal) f t

/-- The hyperbolic tangent is a real number at every extended real. -/
theorem exists_tanh (y : EReal) : ∃ r : ℝ, Ideal.tanh y = (r : EReal) := by
  induction y with
  | bot => exact ⟨-1, by rw [Ideal.tanh_bot, EReal.coe_neg, EReal.coe_one]⟩
  | top => exact ⟨1, by rw [Ideal.tanh_top, EReal.coe_one]⟩
  | coe r => exact ⟨Real.tanh r, rfl⟩

/-- The logistic function is a real number at every real number. -/
theorem exists_logistic (q : ℝ) : ∃ r : ℝ, Ideal.logistic (q : EReal) = (r : EReal) :=
  ⟨_, Ideal.logistic_coe q⟩

variable {S R C : Type} [Fintype S] [Fintype R] [Fintype C] [DecidableEq S]

/-- A sum weighted by the indicator of a property is the sum over the rows that have it. -/
theorem sum_indicator_mul (p : R → Prop) [DecidablePred p] (y : R → EReal) :
    ∑ f, (if p f then (1 : EReal) else 0) * y f = ∑ f with p f, y f := by
  rw [Finset.sum_filter]
  exact Finset.sum_congr rfl fun f _ => by split <;> simp

/-- A row's scores against all segments, each weighted by whether the row is in the segment, sum to its score against the one
segment it is in. -/
theorem sum_own (hit : S → R → Prop) [∀ s f, Decidable (hit s f)] (uniq : ∀ s s' f, hit s f → hit s' f → s = s') (y : S → EReal)
    (s : S) (f : R) (h : hit s f) : ∑ s', y s' * (if hit s' f then (1 : EReal) else 0) = y s := by
  rw [Finset.sum_eq_single s]
  · rw [if_pos h, mul_one]
  · intro s' _ hne
    rw [if_neg fun h' => hne (uniq s' s f h' h), mul_zero]
  · exact fun hn => absurd (Finset.mem_univ s) hn

/-- Gating by the logistic function less `h`, summing, and adding `h` times the plain sum is gating by the logistic function and
summing, over the rows of one segment. -/
theorem shifted_sum (hit : S → R → Prop) [∀ s f, Decidable (hit s f)] (uniq : ∀ s s' f, hit s f → hit s' f → s = s')
    (x : R → C → EReal) (hx : ∀ f c, ∃ r : ℝ, x f c = (r : EReal)) (g : S → C → EReal) (hg : ∀ s c, ∃ r : ℝ, g s c = (r : EReal))
    (h : ℝ) (s : S) (c : C) :
    (∑ f, (if hit s f then (1 : EReal) else 0)
          * (Ideal.logistic (∑ s', (∑ k, g s' k * x f k) * (if hit s' f then (1 : EReal) else 0)) - (h : EReal)) * x f c)
        + (h : EReal) * ∑ f, (if hit s f then (1 : EReal) else 0) * x f c
      = ∑ f with hit s f, Ideal.logistic (∑ k, x f k * g s k) * x f c := by
  choose xr hxr using hx
  choose gr hgr using hg
  have hq : ∀ f, ∃ r : ℝ, Ideal.logistic (∑ k, x f k * g s k) = (r : EReal) := fun f => by
    have e : ∑ k, x f k * g s k = ((∑ k, xr f k * gr s k : ℝ) : EReal) := by
      rw [coe_sum]
      exact Finset.sum_congr rfl fun k _ => by rw [hxr, hgr, EReal.coe_mul]
    rw [e]
    exact exists_logistic _
  choose σ hσ using hq
  have e1 : ∑ f, (if hit s f then (1 : EReal) else 0)
        * (Ideal.logistic (∑ s', (∑ k, g s' k * x f k) * (if hit s' f then (1 : EReal) else 0)) - (h : EReal)) * x f c
      = ((∑ f with hit s f, (σ f - h) * xr f c : ℝ) : EReal) := by
    rw [coe_sum, Finset.sum_filter]
    refine Finset.sum_congr rfl fun f _ => ?_
    by_cases hf : hit s f
    · rw [if_pos hf, if_pos hf, one_mul, sum_own hit uniq _ s f hf, Finset.sum_congr rfl fun k _ => mul_comm (g s k) (x f k), hσ, hxr,
        EReal.coe_mul, EReal.coe_sub]
    · rw [if_neg hf, if_neg hf, zero_mul, zero_mul]
  have e2 : ∑ f, (if hit s f then (1 : EReal) else 0) * x f c = ((∑ f with hit s f, xr f c : ℝ) : EReal) := by
    rw [sum_indicator_mul, coe_sum]
    exact Finset.sum_congr rfl fun f _ => hxr f c
  have e3 : ∑ f with hit s f, Ideal.logistic (∑ k, x f k * g s k) * x f c = ((∑ f with hit s f, σ f * xr f c : ℝ) : EReal) := by
    rw [coe_sum]
    exact Finset.sum_congr rfl fun f _ => by rw [hσ, hxr, EReal.coe_mul]
  rw [e1, e2, e3, ← EReal.coe_mul, ← EReal.coe_add, Finset.mul_sum, ← Finset.sum_add_distrib]
  exact congrArg _ (Finset.sum_congr rfl fun f _ => by ring)

end Cert.Gate

end
-- ==== Proof.KernelBlock.lean ====
module

public import proofs.«01_k».proof.Proof.Gen.KernelIdeal.Value
public import Idealize.ShloMosaic.Lib.Pointwise
public import Idealize.ShloMosaic.Lib.KernelVsHost

/-!
# What the kernel computes for one plane

The body of the kernel, over one plane of rows, the segment numbers and the weight, read at one segment and one channel.
-/

@[expose] public section

noncomputable section

namespace Cert.KernelIdeal.Block

open Cert.KernelIdeal Cert.KernelIdeal.Gen Idealize.ShloMosaic

/-- The kernel's membership bit: the comparison of a segment's number with a row's number, widened and made a float, is 1 where
the two are equal and 0 elsewhere. -/
theorem bit_eq (u v : BitVec 32) :
    FloatOps.sitofp (F := Ideal) FTy.f32 (BitVec.setWidth 32 (IntOp.cmpi .eq u v)) = (if v = u then (1 : EReal) else 0) := by
  show (((BitVec.setWidth 32 (BitVec.ofBool (u == v))).toInt : ℝ) : EReal) = _
  by_cases h : v = u
  · subst h
    rw [if_pos rfl, beq_self_eq_true, show (BitVec.setWidth 32 (BitVec.ofBool true)).toInt = 1 by decide]
    norm_num
  · rw [if_neg h, beq_eq_false_iff_ne.2 fun e => h e.symm, show (BitVec.setWidth 32 (BitVec.ofBool false)).toInt = 0 by decide]
    norm_num

variable (X : Vec Ideal S1x32768x128 .f32) (b : Vec Ideal S32768 .i32) (w : Vec Ideal S128x128 .f32)

/-- Whether row `f` is in segment `s`, as the kernel reads it: 1 or 0. -/
def member (s : Fin 16) (f : Fin 32768) : EReal := if b (ix1 f) = BitVec.ofNat 32 s.val then 1 else 0

/-- The divisor of segment `s`: its number of rows, or 1 if it has none. -/
def size (s : Fin 16) : EReal := max 1 (∑ f, member b s f)

/-- The squashed centre of segment `s` at channel `k`: the mean of its rows, through the weight, through the hyperbolic tangent. -/
def centre (s : Fin 16) (k : Fin 128) : EReal :=
  Ideal.tanh (∑ e, (∑ f, member b s f * X (ix3 0 f e)) * Ideal.div 1 (size b s) * w (ix2 e k))

/-- The kernel's block at segment `s` and channel `c`. -/
theorem payload_apply (s : Fin 16) (c : Fin 128) :
    k0_pay2 (F := Ideal) X b w (ix2 s c)
      = ((∑ f, member b s f
              * (Ideal.logistic (∑ s', (∑ k, centre X b w s' k * X (ix3 0 f k)) * member b s' f) - Ideal.ofBits .f32 0x3F000000#32)
              * X (ix3 0 f c))
            + Ideal.ofBits .f32 0x3F000000#32 * ∑ f, member b s f * X (ix3 0 f c))
          * Ideal.div 1 (size b s) := by
  pointwise [k0_pay2]
  simp only [bit_eq]
  rfl

end Cert.KernelIdeal.Block

end
-- ==== Proof.KernelArray.lean ====
module

public import proofs.«01_k».proof.Proof.KernelBlock

/-!
# What the kernel leaves in its result

Grid point `j` reads plane `j` of the rows and all of the segment numbers and the weight, and writes plane `j` of the result.
-/

@[expose] public section

noncomputable section

namespace Cert.KernelIdeal.Final

open Cert.KernelIdeal Cert.KernelIdeal.Gen Idealize.ShloMosaic Idealize.ShloMosaic.TcCoe Idealize.SL.Sem

variable (m : (ℓ : Loc nD τ sig) → Buf (Elt Ideal) ℓ) (d : Dev nD)

/-- Plane `j` of an array of rows, as a block of one plane. -/
def plane (x : FVec Ideal S25x32768x128 .f32) (j : Fin 25) : Vec Ideal S1x32768x128 .f32 :=
  fun y => x (ix3 j (y 1) (y 2))

/-- The block indices at each grid point: the plane's number and zeros. -/
theorem index_eq (t : Fin cfg0.N) :
    win0_0.index t 0 = 0 ∧ (win0_1.index t 0 = 0 ∧ win0_1.index t 1 = 0)
      ∧ (win0_2.index t 0 = t.val ∧ win0_2.index t 1 = 0 ∧ win0_2.index t 2 = 0)
      ∧ win0_3.index t 0 = t.val ∧ win0_3.index t 1 = 0 ∧ win0_3.index t 2 = 0 :=
  (by decide +kernel : ∀ t : Fin grid0.N,
    win0_0.index t 0 = 0 ∧ (win0_1.index t 0 = 0 ∧ win0_1.index t 1 = 0)
      ∧ (win0_2.index t 0 = t.val ∧ win0_2.index t 1 = 0 ∧ win0_2.index t 2 = 0)
      ∧ win0_3.index t 0 = t.val ∧ win0_3.index t 1 = 0 ∧ win0_3.index t 2 = 0) t

/-- Every grid point reads all the segment numbers. -/
theorem numbers_eq (t : Fin cfg0.N) : (iblk m d 0 t : Vec Ideal S32768 .i32) = m ((d : Thread nD τ).loc main_arg1) := by
  have hi := (index_eq t).1
  funext y
  unfold iblk
  rw [View.read_apply]
  show V m d main_arg1 _ = m (d.tc.loc main_arg1) _
  unfold V
  congr 1
  funext a
  apply Fin.ext
  match a with
  | ⟨0, _⟩ => show win0_0.index t 0 * 32768 + 1 * (y 0).val = (y 0).val; rw [hi]; omega

/-- Every grid point reads all of the weight. -/
theorem weight_eq (t : Fin cfg0.N) : (iblk m d 1 t : Vec Ideal S128x128 .f32) = m ((d : Thread nD τ).loc main_arg2) := by
  have hi := (index_eq t).2.1
  funext y
  unfold iblk
  rw [View.read_apply]
  show V m d main_arg2 _ = m (d.tc.loc main_arg2) _
  unfold V
  congr 1
  funext a
  apply Fin.ext
  match a with
  | ⟨0, _⟩ => show win0_1.index t 0 * 128 + 1 * (y 0).val = (y 0).val; rw [hi.1]; omega
  | ⟨1, _⟩ => show win0_1.index t 1 * 128 + 1 * (y 1).val = (y 1).val; rw [hi.2]; omega

/-- Grid point `j` reads plane `j` of the rows. -/
theorem plane_eq (j : Fin 25) : (iblk m d 2 j : Vec Ideal S1x32768x128 .f32) = plane (m ((d : Thread nD τ).loc main_arg0)) j := by
  have hi := (index_eq j).2.2.1
  funext y
  unfold iblk
  rw [View.read_apply]
  show V m d main_arg0 _ = m (d.tc.loc main_arg0) _
  unfold V
  congr 1
  funext a
  apply Fin.ext
  have hy : (y 0).val < 1 := (y 0).isLt
  match a with
  | ⟨0, _⟩ => show win0_2.index j 0 * 1 + 1 * (y 0).val = j.val; rw [hi.1]; omega
  | ⟨1, _⟩ => show win0_2.index j 1 * 32768 + 1 * (y 1).val = (y 1).val; rw [hi.2.1]; omega
  | ⟨2, _⟩ => show win0_2.index j 2 * 128 + 1 * (y 2).val = (y 2).val; rw [hi.2.2]; omega

/-- Offsets of zero, on one, two and three axes. -/
theorem zero1 : (![0] : Fin 1 → Nat) = fun _ => 0 := funext fun a => by fin_cases a; rfl
theorem zero2 : (![0, 0] : Fin 2 → Nat) = fun _ => 0 := funext fun a => by fin_cases a <;> rfl
theorem zero3 : (![0, 0, 0] : Fin 3 → Nat) = fun _ => 0 := funext fun a => by fin_cases a <;> rfl

/-- What the body leaves in the result's block, at segment `s` and channel `c`. -/
theorem out_apply (b : Vec Ideal S32768 .i32) (w : Vec Ideal S128x128 .f32) (X : Vec Ideal S1x32768x128 .f32) (s : Fin 16) (c : Fin 128) :
    out0_3 b w X (ix3 0 s c) = k0_pay2 (F := Ideal) X b w (ix2 s c) := by
  unfold out0_3
  rw [Value.canon3_eq]
  unfold Value.E3
  rw [View.ld_unit_zero (S := S1x32768x128) zero3, View.ld_unit_zero (S := S32768) zero1, View.ld_unit_zero (S := S128x128) zero2]
  refine congrArg _ (funext fun a => Fin.ext ?_)
  match a with
  | ⟨0, _⟩ => rfl
  | ⟨1, _⟩ => rfl

/-- The result at plane `j`, segment `s` and channel `c` is the body's value over plane `j`. -/
theorem array_apply (j : Fin 25) (s : Fin 16) (c : Fin 128) :
    ((dats m 0 d).arrAt 3 cfg0.N : FVec Ideal S25x16x128 .f32) (ix3 j s c)
      = k0_pay2 (F := Ideal) (plane (m ((d : Thread nD τ).loc main_arg0)) j) (m ((d : Thread nD τ).loc main_arg1))
          (m ((d : Thread nD τ).loc main_arg2)) (ix2 s c) := by
  have hi := (index_eq j).2.2.2
  have h := congrFun ((Value.blocks3 m d j (flush0_3 j)).trans (Value.flushed3 m d j)) (ix3 0 s c)
  rw [View.read_apply] at h
  have e : out0_3 (iblk m d 0 j) (iblk m d 1 j) (iblk m d 2 j) (ix3 0 s c)
      = out0_3 (m ((d : Thread nD τ).loc main_arg1)) (m ((d : Thread nD τ).loc main_arg2)) (plane (m ((d : Thread nD τ).loc main_arg0)) j)
          (ix3 0 s c) :=
    congrFun (congr (congrArg₂ out0_3 (numbers_eq m d j) (weight_eq m d j)) (plane_eq m d j)) (ix3 0 s c)
  refine (congrArg _ (funext fun a => Fin.ext ?_)).trans (h.trans (Eq.trans ?_ (e.trans (out_apply _ _ _ s c))))
  rotate_left
  · refine congrArg _ (funext fun a => Fin.ext ?_)
    match a with
    | ⟨0, _⟩ => rfl
    | ⟨1, _⟩ => rfl
    | ⟨2, _⟩ => rfl
  match a with
  | ⟨0, _⟩ => show j.val = win0_3.index j 0 * 1 + 1 * 0; rw [hi.1]; omega
  | ⟨1, _⟩ => show s.val = win0_3.index j 1 * 16 + 1 * s.val; rw [hi.2.1]; omega
  | ⟨2, _⟩ => show c.val = win0_3.index j 2 * 128 + 1 * c.val; rw [hi.2.2]; omega

end Cert.KernelIdeal.Final

end
-- ==== Proof.ReferenceIndex.lean ====
module

public import proofs.«01_k».proof.Proof.Gen.ReferenceIdeal
public import Idealize.ShloMosaic.Lib.Pointwise
public import Idealize.ShloMosaic.Lib.Routing.OpsPair

/-!
# Where the reference's scatters land and its gather reads

The reference adds row `f` of every plane, and one for row `f` in the count, to the segment whose number is the index word of `f`
read signed; and it reads, for row `f`, the centre of that segment.
-/

@[expose] public section

noncomputable section

namespace Cert.ReferenceIdeal.Index

open Cert.ReferenceIdeal Cert.ReferenceIdeal.Gen Idealize.ShloMosaic

/-- The dimension numbers of the two scatters of rows. -/
abbrev rowsDims := scatter_S25x16x128_S32768x1_S25x32768x128_02_1_1_1

/-- The dimension numbers of the scatter that counts. -/
abbrev countDims := scatter_S16_S32768x1_S32768_n_0_0_1

/-- The dimension numbers of the gather. -/
abbrev takeDims := gather_S25x16x128_S32768x1_S25x32768x128_02_1_n_n_1_1_251128

variable (idx : IVec S32768x1 32)

/-- The scatter of rows starts, on the axis of segments, at the row's index word. -/
theorem rows_start (p : Fin 25) (f : Fin 32768) (k : Fin 128) : rowsDims.start (ix3 p f k) idx 1 = (idx (ix2 f 0)).toInt := by
  unfold ScatterDims.start
  rw [dif_pos (by decide)]
  congr 2
  funext a
  fin_cases a <;> rfl

/-- Element `(p, f, k)` of the rows is added at plane `p`, channel `k` and the segment whose number is row `f`'s index word. -/
theorem rows_land (p : Fin 25) (f : Fin 32768) (k : Fin 128) (j : Fin 25) (s : Fin 16) (c : Fin 128) :
    rowsDims.resultIdx? (ix3 p f k) idx = some (ix3 j s c) ↔ p = j ∧ (idx (ix2 f 0)).toInt = (s.val : Int) ∧ k = c := by
  rw [Routing.resultIdx?_eq_some]
  have h0 : rowsDims.start (ix3 p f k) idx 0 + (rowsDims.window (ix3 p f k) 0 : Int) = (p.val : Int) := Int.zero_add _
  have h1 : rowsDims.start (ix3 p f k) idx 1 + (rowsDims.window (ix3 p f k) 1 : Int) = (idx (ix2 f 0)).toInt := by
    rw [rows_start]
    exact Int.add_zero _
  have h2 : rowsDims.start (ix3 p f k) idx 2 + (rowsDims.window (ix3 p f k) 2 : Int) = (k.val : Int) := Int.zero_add _
  constructor
  · intro h
    refine ⟨Fin.ext ?_, h1.symm.trans (h 1), Fin.ext ?_⟩
    · exact Int.ofNat_inj.1 (h0.symm.trans (h 0))
    · exact Int.ofNat_inj.1 (h2.symm.trans (h 2))
  · rintro ⟨rfl, h, rfl⟩ a
    match a with
    | ⟨0, _⟩ => exact h0
    | ⟨1, _⟩ => exact h1.trans h
    | ⟨2, _⟩ => exact h2

/-- Row `f` is counted in the segment whose number is its index word. -/
theorem count_lands (f : Fin 32768) (s : Fin 16) :
    countDims.resultIdx? (ix1 f) idx = some (ix1 s) ↔ (idx (ix2 f 0)).toInt = (s.val : Int) := by
  rw [Routing.resultIdx?_eq_some]
  have h0 : countDims.start (ix1 f) idx 0 + (countDims.window (ix1 f) 0 : Int) = (idx (ix2 f 0)).toInt := by
    have hs : countDims.start (ix1 f) idx 0 = (idx (ix2 f 0)).toInt := by
      unfold ScatterDims.start
      rw [dif_pos (by decide)]
      congr 2
      funext a
      fin_cases a <;> rfl
    rw [hs]
    exact Int.add_zero _
  constructor
  · intro h
    exact h0.symm.trans (h 0)
  · intro h a
    match a with
    | ⟨0, _⟩ => exact h0.trans h

/-- The gather reads, for row `f`, plane `p`, channel `k` and the segment whose number is row `f`'s index word, where that is a
segment. -/
theorem take_reads {α : Type} (v : S25x16x128.Idx → α) (p : Fin 25) (f : Fin 32768) (k : Fin 128) (s : Fin 16)
    (h : (idx (ix2 f 0)).toInt = (s.val : Int)) : Host.gather takeDims v idx (ix3 p f k) = v (ix3 p s k) := by
  refine congrArg v (funext fun a => Fin.ext ?_)
  have h1 : takeDims.start (ix3 p f k) idx 1 = s.val := by
    have hw : takeDims.start (ix3 p f k) idx 1 = min (idx (ix2 f 0)).toInt.toNat 15 := by
      unfold GatherDims.start
      rw [dif_pos (by decide)]
      congr 4
      funext a
      fin_cases a <;> rfl
    have := s.isLt
    rw [hw, h]
    omega
  match a with
  | ⟨0, _⟩ =>
    show 0 + 0 + p.val = p.val
    omega
  | ⟨1, _⟩ =>
    show takeDims.start (ix3 p f k) idx 1 + 0 + 0 = s.val
    omega
  | ⟨2, _⟩ =>
    show 0 + 0 + k.val = k.val
    omega

/-- The scatter of rows onto zeros, at one plane, segment and channel: the sum over the segment's rows. -/
theorem scatter_rows_apply (z v : FVec Ideal _ .f32) (hz : ∀ i, z i = (0 : EReal)) (j : Fin 25) (s : Fin 16) (c : Fin 128) :
    Host.scatterAdd (F := Ideal) (φ := .f32) rowsDims z idx v (ix3 j s c) = ∑ f with (idx (ix2 f 0)).toInt = ((s : Fin 16).val : Int), v (ix3 j f c) := by
  show z (ix3 j s c) + ∑ i ∈ Finset.univ.filter (fun i => rowsDims.resultIdx? i idx = some (ix3 j s c)), v i = _
  rw [hz, zero_add]
  refine (Finset.sum_bij (fun f _ => ix3 j f c) (fun f hf => ?_) (fun f _ f' _ e => ?_) (fun i hi => ?_) (fun _ _ => rfl)).symm
  · exact Finset.mem_filter.2 ⟨Finset.mem_univ _, (rows_land idx _ _ _ _ _ _).2 ⟨rfl, (Finset.mem_filter.1 hf).2, rfl⟩⟩
  · exact congrFun e 1
  · rw [eq_ix3 i] at hi ⊢
    obtain ⟨h0, h1, h2⟩ := (rows_land idx _ _ _ _ _ _).1 (Finset.mem_filter.1 hi).2
    exact ⟨i 1, Finset.mem_filter.2 ⟨Finset.mem_univ _, h1⟩, by rw [h0, h2]⟩

/-- The scatter that counts, onto zeros, at one segment: the sum over the segment's rows. -/
theorem scatter_count_apply (z v : FVec Ideal _ .f32) (hz : ∀ i, z i = (0 : EReal)) (s : Fin 16) :
    Host.scatterAdd (F := Ideal) (φ := .f32) countDims z idx v (ix1 s) = ∑ f with (idx (ix2 f 0)).toInt = ((s : Fin 16).val : Int), v (ix1 f) := by
  show z (ix1 s) + ∑ i ∈ Finset.univ.filter (fun i => countDims.resultIdx? i idx = some (ix1 s)), v i = _
  rw [hz, zero_add]
  refine (Finset.sum_bij (fun f _ => ix1 f) (fun f hf => ?_) (fun f _ f' _ e => ?_) (fun i hi => ?_) (fun _ _ => rfl)).symm
  · exact Finset.mem_filter.2 ⟨Finset.mem_univ _, (count_lands idx _ _).2 (Finset.mem_filter.1 hf).2⟩
  · exact congrFun e 0
  · rw [eq_ix1 i] at hi ⊢
    exact ⟨i 0, Finset.mem_filter.2 ⟨Finset.mem_univ _, (count_lands idx _ _).1 (Finset.mem_filter.1 hi).2⟩, rfl⟩

end Cert.ReferenceIdeal.Index

end
-- ==== Proof.ReferenceValue.lean ====
module

public import proofs.«01_k».proof.Proof.ReferenceIndex
public import proofs.«01_k».proof.Proof.Gen.ReferenceIdeal.Run
public import Idealize.ShloMosaic.Lib.IdealHost
public import Idealize.ShloMosaic.Lib.ReduceAll

/-!
# What the reference computes

The reference's result in stages, each read at an index, where no segment number is negative.
-/

@[expose] public section

noncomputable section

namespace Cert.ReferenceIdeal.Stage

open Cert.ReferenceIdeal Cert.ReferenceIdeal.Gen Idealize.ShloMosaic Idealize.SL.Sem

variable (x : FVec Ideal S25x32768x128 .f32) (b : IVec S32768 32) (w : FVec Ideal S128x128 .f32)

/-! ## The stages -/

/-- The index words as the scatters and the gather take them: a negative number counts from the end. -/
def words : IVec S32768x1 32 :=
  broadcastInDim S32768x1 ![0] bcast_S32768_S32768x1_0
    (select (cmpi .slt b (broadcastInDim S32768 ![] bcast_S_S32768 (constantI S_ 32 0#32)))
      (addi b (broadcastInDim S32768 ![] bcast_S_S32768 (constantI S_ 32 16#32))) b)

/-- The sums of an array's rows by segment. -/
def sums (v : FVec Ideal S25x32768x128 .f32) : FVec Ideal S25x16x128 .f32 :=
  Host.scatterAdd scatter_S25x16x128_S32768x1_S25x32768x128_02_1_1_1
    (broadcastInDim S25x16x128 ![] bcast_S_S25x16x128 (constant S_ .f32 0x00000000#32)) (words b) v

/-- The divisors: each segment's number of rows, or 1 if it has none. -/
def sizes : FVec Ideal S16 .f32 :=
  maximumf (broadcastInDim S16 ![] bcast_S_S16 (id (constant S_ .f32 0x3F800000#32)))
    (Host.scatterAdd scatter_S16_S32768x1_S32768_n_0_0_1 (broadcastInDim S16 ![] bcast_S_S16 (constant S_ .f32 0x00000000#32)) (words b)
      (broadcastInDim S32768 ![] bcast_S_S32768 (constant S_ .f32 0x3F800000#32)))

/-- The means of an array's rows by segment. -/
def means (v : FVec Ideal S25x32768x128 .f32) : FVec Ideal S25x16x128 .f32 :=
  Host.divf (sums b v)
    (broadcastInDim S25x16x128 ![0, 1, 2] bcast_S1x16x1_S25x16x128_0_1_2 (broadcastInDim S1x16x1 ![1] bcast_S16_S1x16x1_1 (sizes b)))

/-- The squashed centres of the segments. -/
def centres : FVec Ideal S25x16x128 .f32 :=
  Host.tanh (Host.dotGeneral dot_S25x16x128_S128x128_S25x16x128_2_0_01_1_n_n none (means b x) w)

/-- Which rows' index words name a segment. -/
def named : IVec S32768 1 :=
  Host.reduce IntOp.andi
    (andi (cmpi .sge (words b) (broadcastInDim S32768x1 ![] bcast_S_S32768x1 (constantI S_ 32 0#32)))
      (cmpi .sle (words b)
        (broadcastInDim S32768x1 ![0, 1] bcast_S1x1_S32768x1_0_1 (broadcastInDim S1x1 ![1] bcast_S1_S1x1_1 (constantI S1 32 15#32)))))
    (constantI S_ 1 1#1) reducesTo_S32768x1_S32768_d1 h_S_

/-- Each row's own centre: that of the segment its index word names. -/
def own : FVec Ideal S25x32768x128 .f32 :=
  select (broadcastInDim S25x32768x128 ![1] bcast_S32768_S25x32768x128_1 (named b))
    (Host.gather gather_S25x16x128_S32768x1_S25x32768x128_02_1_n_n_1_1_251128 (centres x b w) (words b))
    (broadcastInDim S25x32768x128 ![] bcast_S_S25x32768x128 (constant S_ .f32 0x7FC00000#32))

/-- The gates: the logistic function of each row's product with its own centre. -/
def gates : FVec Ideal S25x32768x1 .f32 :=
  Host.divf (broadcastInDim S25x32768x1 ![] bcast_S_S25x32768x1 (constant S_ .f32 0x3F800000#32))
    (addf (broadcastInDim S25x32768x1 ![] bcast_S_S25x32768x1 (constant S_ .f32 0x3F800000#32))
      (Host.exp (Host.negf (broadcastInDim S25x32768x1 ![0, 1] bcast_S25x32768_S25x32768x1_0_1
        (Host.reduceAdd (mulf x (own x b w)) (constant S_ .f32 0x00000000#32) reducesTo_S25x32768x128_S25x32768_d2 h_S_)))))

/-- The gated rows. -/
def gated : FVec Ideal S25x32768x128 .f32 :=
  mulf (broadcastInDim S25x32768x128 ![0, 1, 2] bcast_S25x32768x1_S25x32768x128_0_1_2 (gates x b w)) x

/-- The reference's result is the means of the gated rows. -/
theorem result_eq (m : (ℓ : Loc nD τ sig) → Buf (Elt Ideal) ℓ) (d : Dev nD) :
    Value.res_main_v55 (F := Ideal) m d
      = means (m ((d.tc : Thread nD τ).loc main_arg1))
          (gated (m ((d.tc : Thread nD τ).loc main_arg0)) (m ((d.tc : Thread nD τ).loc main_arg1)) (m ((d.tc : Thread nD τ).loc main_arg2))) :=
  rfl

/-! ## Their values -/

/-- The segments are words: a word is `s` read signed exactly when it is the word of `s`. -/
theorem toInt_eq_iff (v : BitVec 32) (s : Fin 16) : v.toInt = (s.val : Int) ↔ v = BitVec.ofNat 32 s.val := by
  have hs := s.isLt
  have e : (BitVec.ofNat 32 s.val).toInt = (s.val : Int) := by
    rw [BitVec.toInt_eq_toNat_of_lt] <;> rw [BitVec.toNat_ofNat] <;> omega
  constructor
  · intro h
    exact BitVec.eq_of_toInt_eq (h.trans e.symm)
  · rintro rfl
    exact e

variable (hb : ∀ f : Fin 32768, 0 ≤ (b (ix1 f)).toInt)

include hb in
/-- A number that is not negative is its own index word. -/
theorem words_apply (f : Fin 32768) : words b (ix2 f 0) = b (ix1 f) := by
  unfold words
  pointwise
  have h := hb f
  have e : IntOp.cmpi .slt (b (ix1 f)) 0#32 = 0#1 := by
    show BitVec.ofBool ((b (ix1 f)).slt 0#32) = 0#1
    rw [BitVec.slt_eq_decide, decide_eq_false (by rw [BitVec.toInt_zero]; omega)]
    rfl
  rw [e]
  rfl

include hb in
/-- The sum of an array's rows over a segment, at a plane and a channel. -/
theorem sums_apply (v : FVec Ideal S25x32768x128 .f32) (j : Fin 25) (s : Fin 16) (c : Fin 128) :
    sums b v (ix3 j s c) = ∑ f with b (ix1 f) = BitVec.ofNat 32 s.val, v (ix3 j f c) := by
  unfold sums
  refine (Index.scatter_rows_apply (words b) _ v (fun i => Ideal.ofBits_zero_f32) j s c).trans ?_
  refine Finset.sum_congr (Finset.filter_congr fun f _ => ?_) fun _ _ => rfl
  rw [words_apply b hb, toInt_eq_iff]

include hb in
/-- A segment's divisor. -/
theorem sizes_apply (s : Fin 16) : sizes b (ix1 s) = max 1 (∑ f : Fin 32768 with b (ix1 f) = BitVec.ofNat 32 s.val, (1 : EReal)) := by
  show max (Ideal.ofBits .f32 0x3F800000#32) _ = _
  rw [Ideal.ofBits_one_f32]
  refine congrArg (max (1 : EReal)) ((Index.scatter_count_apply (words b) _ _ (fun i => Ideal.ofBits_zero_f32) s).trans ?_)
  refine Finset.sum_congr (Finset.filter_congr fun f _ => ?_) fun _ _ => Ideal.ofBits_one_f32
  rw [words_apply b hb, toInt_eq_iff]

include hb in
/-- The mean of an array's rows over a segment, at a plane and a channel. -/
theorem means_apply (v : FVec Ideal S25x32768x128 .f32) (j : Fin 25) (s : Fin 16) (c : Fin 128) :
    means b v (ix3 j s c)
      = Ideal.div (∑ f with b (ix1 f) = BitVec.ofNat 32 s.val, v (ix3 j f c))
          (max 1 (∑ f : Fin 32768 with b (ix1 f) = BitVec.ofNat 32 s.val, (1 : EReal))) := by
  unfold means
  pointwise
  rw [sums_apply b hb, sizes_apply b hb]

include hb in
/-- A segment's squashed centre, at a plane and a channel. -/
theorem centres_apply (j : Fin 25) (s : Fin 16) (k : Fin 128) :
    centres x b w (ix3 j s k)
      = Ideal.tanh (∑ e, Ideal.div (∑ f with b (ix1 f) = BitVec.ofNat 32 s.val, x (ix3 j f e))
          (max 1 (∑ f : Fin 32768 with b (ix1 f) = BitVec.ofNat 32 s.val, (1 : EReal))) * w (ix2 e k)) := by
  unfold centres
  pointwise
  simp only [means_apply b hb]

include hb in
/-- A row in segment `s` has an index word that names a segment. -/
theorem named_apply (f : Fin 32768) (s : Fin 16) (h : b (ix1 f) = BitVec.ofNat 32 s.val) : named b (ix1 f) = 1#1 := by
  unfold named
  pointwise
  have bits : ∀ s : Fin 16, IntOp.andi (1#1) (IntOp.andi (IntOp.cmpi .sge (BitVec.ofNat 32 s.val) 0#32)
      (IntOp.cmpi .sle (BitVec.ofNat 32 s.val) 15#32)) = 1#1 := by decide
  rw [Finset.univ_unique, Finset.fold_singleton]
  show IntOp.andi (IntOp.andi (IntOp.cmpi .sge (words b (ix2 f 0)) 0#32) (IntOp.cmpi .sle (words b (ix2 f 0)) 15#32)) (1#1) = 1#1
  rw [words_apply b hb, h]
  exact (BitVec.and_comm _ _).trans (bits s)

include hb in
/-- A row in segment `s` has that segment's centre as its own. -/
theorem own_apply (j : Fin 25) (f : Fin 32768) (k : Fin 128) (s : Fin 16) (h : b (ix1 f) = BitVec.ofNat 32 s.val) :
    own x b w (ix3 j f k) = centres x b w (ix3 j s k) := by
  have ht : (words b (ix2 f 0)).toInt = (s.val : Int) := by
    rw [words_apply b hb]
    exact (toInt_eq_iff _ s).2 h
  unfold own
  have hm : broadcastInDim S25x32768x128 ![1] bcast_S32768_S25x32768x128_1 (named b) (ix3 j f k) = 1#1 := by
    pointwise
    exact named_apply b hb f s h
  rw [select, hm, Index.take_reads (words b) (centres x b w) j f k s ht]
  exact if_pos rfl

include hb in
/-- The gate of a row in segment `s`. -/
theorem gated_apply (j : Fin 25) (f : Fin 32768) (c : Fin 128) (s : Fin 16) (h : b (ix1 f) = BitVec.ofNat 32 s.val) :
    gated x b w (ix3 j f c) = Ideal.logistic (∑ k, x (ix3 j f k) * centres x b w (ix3 j s k)) * x (ix3 j f c) := by
  unfold gated gates
  pointwise
  simp only [own_apply x b w hb j f _ s h]
  rfl

include hb in
/-- The reference's result at a plane, a segment and a channel. -/
theorem value (j : Fin 25) (s : Fin 16) (c : Fin 128) :
    means b (gated x b w) (ix3 j s c)
      = Ideal.div (∑ f with b (ix1 f) = BitVec.ofNat 32 s.val,
            Ideal.logistic (∑ k, x (ix3 j f k) * centres x b w (ix3 j s k)) * x (ix3 j f c))
          (max 1 (∑ f : Fin 32768 with b (ix1 f) = BitVec.ofNat 32 s.val, (1 : EReal))) := by
  rw [means_apply b hb]
  rw [Finset.sum_congr rfl fun f hf => gated_apply x b w hb j f c s (Finset.mem_filter.1 hf).2]

end Cert.ReferenceIdeal.Stage

end
-- ==== Proof.Precondition.lean ====
module

public import proofs.«01_k».proof.Pre_finite_and_nonneg
public import Idealize.ShloMosaic.Lib.Pointwise
public import Idealize.ShloMosaic.Lib.ReduceAll

/-!
# What the precondition says

Every entry of the rows is a real number and no segment number is negative.
-/

@[expose] public section

noncomputable section

namespace Cert.Pre_finite_and_nonneg

open Idealize.ShloMosaic

/-- The side conditions that the precondition's operations take. -/
instance facts : Facts where
  bcast_S_S25x32768x128 := by decide
  reducesTo_S25x32768x128_S_d0_1_2 := by decide
  h_S_ := by decide
  bcast_S_S32768 := by decide
  reducesTo_S32768_S_d0 := by decide

/-- The pattern of positive infinity is the top extended real. -/
theorem infinity_eq : Ideal.ofBits .f32 0x7F800000#32 = ⊤ := by
  simp [Ideal.ofBits, Ideal.ieee]

variable (x : FVec Ideal S25x32768x128 .f32) (b : IVec S32768 32) (w : FVec Ideal S128x128 .f32)

/-- Both halves of the precondition hold at every index. -/
theorem bits (h : fn (F := Ideal) x b w = fun _ => 1#1) :
    (∀ i, Ideal.cmp .olt (max (x i) (-(x i))) (Ideal.ofBits .f32 0x7F800000#32) = 1#1)
      ∧ ∀ i, IntOp.cmpi .sge (b i) 0#32 = 1#1 := by
  haveI : Subsingleton S_.Idx := ⟨fun a b => funext fun i => i.elim0⟩
  obtain ⟨h1, h2⟩ := IntOp.andi_eq_one.1 (congrFun h (fun i => i.elim0))
  exact ⟨fun i => Host.reduce_andi_all _ _ _ _ _ h1 i, fun i => Host.reduce_andi_all _ _ _ _ _ h2 i⟩

/-- Every entry of the rows is a real number. -/
theorem finite (h : fn (F := Ideal) x b w = fun _ => 1#1) (i : S25x32768x128.Idx) : ∃ r : ℝ, x i = (r : EReal) := by
  have hi := (bits x b w h).1 i
  rw [infinity_eq] at hi
  have hlt : max (x i) (-(x i)) < (⊤ : EReal) := by
    by_contra hn
    have e : Ideal.cmp .olt (max (x i) (-(x i))) ⊤ = 0#1 := by
      show BitVec.ofBool (decide (max (x i) (-(x i)) < (⊤ : EReal))) = 0#1
      rw [decide_eq_false hn]
      rfl
    rw [e] at hi
    exact absurd hi (by decide)
  refine ⟨(x i : EReal).toReal, (EReal.coe_toReal (fun e => ?_) (fun e => ?_)).symm⟩
  · rw [e] at hlt
    exact absurd hlt (by simp)
  · rw [e] at hlt
    exact absurd hlt (by simp)

/-- No segment number is negative. -/
theorem nonneg (h : fn (F := Ideal) x b w = fun _ => 1#1) (f : Fin 32768) : 0 ≤ (b (ix1 f)).toInt := by
  have hi := (bits x b w h).2 (ix1 f)
  by_contra hn
  have e : IntOp.cmpi .sge (b (ix1 f)) 0#32 = 0#1 := by
    show BitVec.ofBool ((0#32).sle (b (ix1 f))) = 0#1
    rw [BitVec.sle_eq_decide, decide_eq_false (by rw [BitVec.toInt_zero]; omega)]
    rfl
  rw [e] at hi
  exact absurd hi (by decide)

end Cert.Pre_finite_and_nonneg

end
-- ==== Proof.Equation.lean ====
module

public import proofs.«01_k».proof.Proof.Gate
public import proofs.«01_k».proof.Proof.KernelArray
public import proofs.«01_k».proof.Proof.ReferenceValue
public import proofs.«01_k».proof.Proof.Precondition

/-!
# The kernel's value is the reference's

Over rows whose entries are real numbers and segment numbers that are not negative, the kernel's block for a plane is the
reference's result at that plane.
-/

@[expose] public section

noncomputable section

namespace Cert.Equation

open Idealize.ShloMosaic Cert.KernelIdeal Cert.KernelIdeal.Gen

/-- The constant that the kernel takes from each gate is a real number. -/
theorem exists_half : ∃ r : ℝ, Ideal.ofBits .f32 0x3F000000#32 = (r : EReal) := by
  refine ⟨1 / 2, ?_⟩
  simp [Ideal.ofBits, Ideal.ieee, -EReal.coe_mul]
  norm_num

variable (x : FVec Ideal S25x32768x128 .f32) (b : IVec S32768 32) (w : FVec Ideal S128x128 .f32)

/-- A row is in one segment at most. -/
theorem unique (s s' : Fin 16) (f : Fin 32768) (h : b (ix1 f) = BitVec.ofNat 32 s.val) (h' : b (ix1 f) = BitVec.ofNat 32 s'.val) : s = s' := by
  have e := congrArg BitVec.toNat (h.symm.trans h')
  rw [BitVec.toNat_ofNat, BitVec.toNat_ofNat] at e
  have := s.isLt
  have := s'.isLt
  exact Fin.ext (by omega)

/-- The kernel's divisor is the reference's. -/
theorem size_eq (s : Fin 16) :
    Block.size b s = max 1 (∑ f : Fin 32768 with b (ix1 f) = BitVec.ofNat 32 s.val, (1 : EReal)) := by
  unfold Block.size Block.member
  rw [Finset.sum_filter]

/-- A divisor is not zero. -/
theorem size_ne_zero (s : Fin 16) : Block.size b s ≠ 0 :=
  ne_of_gt (lt_of_lt_of_le zero_lt_one (le_max_left _ _))

/-- The kernel's squashed centre is the reference's. -/
theorem centre_eq (hb : ∀ f : Fin 32768, 0 ≤ (b (ix1 f)).toInt) (j : Fin 25) (s : Fin 16) (k : Fin 128) :
    Block.centre (Final.plane x j) b w s k = ReferenceIdeal.Stage.centres x b w (ix3 j s k) := by
  rw [ReferenceIdeal.Stage.centres_apply x b w hb, ← size_eq]
  unfold Block.centre
  refine congrArg Ideal.tanh (Finset.sum_congr rfl fun e _ => ?_)
  have e1 : ∑ f, Block.member b s f * Final.plane x j (ix3 0 f e) = ∑ f with b (ix1 f) = BitVec.ofNat 32 s.val, x (ix3 j f e) :=
    Gate.sum_indicator_mul (fun f : Fin 32768 => b (ix1 f) = BitVec.ofNat 32 s.val) fun f => x (ix3 j f e)
  rw [Ideal.mul_one_div (size_ne_zero b s), e1]

/-- The kernel's block for plane `j` is the reference's result at plane `j`. -/
theorem block_eq (hx : ∀ i, ∃ r : ℝ, x i = (r : EReal)) (hb : ∀ f : Fin 32768, 0 ≤ (b (ix1 f)).toInt) (j : Fin 25) (s : Fin 16)
    (c : Fin 128) :
    k0_pay2 (F := Ideal) (Final.plane x j) b w (ix2 s c)
      = ReferenceIdeal.Stage.means b (ReferenceIdeal.Stage.gated x b w) (ix3 j s c) := by
  obtain ⟨h, hh⟩ := exists_half
  rw [Block.payload_apply, ReferenceIdeal.Stage.value x b w hb, ← size_eq, Ideal.mul_one_div (size_ne_zero b s), hh]
  simp only [← centre_eq x b w hb]
  have e : (∑ f, Block.member b s f
          * (Ideal.logistic (∑ s', (∑ k, Block.centre (Final.plane x j) b w s' k * Final.plane x j (ix3 0 f k)) * Block.member b s' f)
            - (h : EReal)) * Final.plane x j (ix3 0 f c))
        + (h : EReal) * ∑ f, Block.member b s f * Final.plane x j (ix3 0 f c)
      = ∑ f with b (ix1 f) = BitVec.ofNat 32 s.val,
          Ideal.logistic (∑ k, x (ix3 j f k) * Block.centre (Final.plane x j) b w s k) * x (ix3 j f c) :=
    Gate.shifted_sum (fun (s : Fin 16) (f : Fin 32768) => b (ix1 f) = BitVec.ofNat 32 s.val) (unique b) (fun f c => x (ix3 j f c))
      (fun f c => hx _) (Block.centre (Final.plane x j) b w) (fun s k => Gate.exists_tanh _) h s c
  rw [e]

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

/-!
# The certificate

The kernel, its reading over the extended reals and the reference run to the end and leave their arguments as they were; and the
kernel's result is the reference's, over rows whose entries are finite and segment numbers that are not negative.
-/

@[expose] public section

noncomputable section

namespace Cert.Proof

open Idealize.ShloMosaic Idealize.SL.Sem Cert.Kernel

/-- The reference runs to the end, keeps its arguments and leaves every counter at zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result array is the reference's result, where the precondition holds and the arguments agree. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_finite_and_nonneg m)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Value.res_main_v55 (F := Ideal) m' c : FVec Ideal Cert.KernelIdeal.S25x16x128 .f32)
      = (Cert.KernelIdeal.Gen.dats m 0 c).arrAt 3 Cert.KernelIdeal.cfg0.N := by
  rw [Cert.ReferenceIdeal.Stage.result_eq, h0, h1, h2]
  funext i
  obtain ⟨j, s, k, rfl⟩ : ∃ (j : Fin 25) (s : Fin 16) (k : Fin 128), i = ix3 j s k := ⟨i 0, i 1, i 2, eq_ix3 i⟩
  exact ((Cert.KernelIdeal.Final.array_apply m c j s k).trans
    (Cert.Equation.block_eq _ _ _ (Cert.Pre_finite_and_nonneg.finite _ _ _ (hpre c)) (Cert.Pre_finite_and_nonneg.nonneg _ _ _ (hpre c))
      j s k)).symm

/-- The kernel and the reference end with equal results, over finite rows and segment numbers that are not negative. -/
theorem value : Cert.algebraic_KernelIdeal_ReferenceIdeal_pre_finite_and_nonneg := fun m g m' g' hpre hagree =>
  ⟨fun c => (Cert.KernelIdeal.Gen.dats m 0 c).arrAt 3 Cert.KernelIdeal.cfg0.N, Cert.KernelIdeal.Value.run_blocks (F := Ideal) m g,
    (θ_run Cert.ReferenceIdeal.defs _ _).mono
      (fun _ h c => ⟨(h c).1.trans (result_eq m m' c hpre (hagree c).1 (hagree c).2.1 (hagree c).2.2), (h c).2⟩)
      (Cert.ReferenceIdeal.Value.run (F := Ideal) m' g')⟩

/-- Every claim of the certificate holds. -/
theorem claim : Cert.Claim :=
  ⟨Cert.Kernel.Gen.facts, Cert.KernelIdeal.Gen.facts, Cert.ReferenceIdeal.Gen.facts, Cert.Pre_finite_and_nonneg.facts,
    fun m ρ _ => Cert.Kernel.Gen.frame (F := Bits) m ρ, fun m ρ _ => Cert.KernelIdeal.Gen.frame (F := Ideal) m ρ,
    fun m ρ _ => Cert.KernelIdeal.Gen.frame (F := Ideal) m ρ, reference_frame, fun m ρ _ => reference_frame m ρ trivial, trivial, value⟩

end Cert.Proof

end
